-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x200x21 : Shape := ⟨3, ![16384, 200, 21]⟩
abbrev S21x64 : Shape := ⟨2, ![21, 64]⟩
abbrev S21x200x16384 : Shape := ⟨3, ![21, 200, 16384]⟩
abbrev S64x21 : Shape := ⟨2, ![64, 21]⟩
abbrev S200x64x16384 : Shape := ⟨3, ![200, 64, 16384]⟩
abbrev S21x8x8192 : Shape := ⟨3, ![21, 8, 8192]⟩
abbrev S8x64x8192 : Shape := ⟨3, ![8, 64, 8192]⟩
abbrev S21x1x8192 : Shape := ⟨3, ![21, 1, 8192]⟩
abbrev S21x8192 : Shape := ⟨2, ![21, 8192]⟩
abbrev S64x8192 : Shape := ⟨2, ![64, 8192]⟩
abbrev S1x64x8192 : Shape := ⟨3, ![1, 64, 8192]⟩
abbrev S16384x200x64 : Shape := ⟨3, ![16384, 200, 64]⟩

abbrev nBuf : Space → Nat
  | .hbm => 6
  | .vmem => 5
  | .smem => 0
  | _ => 0

abbrev bufTy : (tb : Table) → Fin (tcTables nBuf tb) → BufTy
  | .hbm, ⟨0, _⟩ => ⟨S16384x200x21, .f32⟩
  | .hbm, ⟨1, _⟩ => ⟨S21x64, .f32⟩
  | .hbm, ⟨2, _⟩ => ⟨S21x200x16384, .f32⟩
  | .hbm, ⟨3, _⟩ => ⟨S64x21, .f32⟩
  | .hbm, ⟨4, _⟩ => ⟨S200x64x16384, .f32⟩
  | .hbm, ⟨5, _⟩ => ⟨S16384x200x64, .f32⟩
  | .local _ .vmem, ⟨0, _⟩ => ⟨S21x8x8192, .f32⟩
  | .local _ .vmem, ⟨1, _⟩ => ⟨S21x8x8192, .f32⟩
  | .local _ .vmem, ⟨2, _⟩ => ⟨S64x21, .f32⟩
  | .local _ .vmem, ⟨3, _⟩ => ⟨S8x64x8192, .f32⟩
  | .local _ .vmem, ⟨4, _⟩ => ⟨S8x64x8192, .f32⟩
  | _, _ => ⟨S16384x200x21, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![25, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S21x8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x21 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16384x200x21 : Shape := ⟨3, ![16384, 200, 21]⟩
abbrev S21x64 : Shape := ⟨2, ![21, 64]⟩
abbrev S16384x200x64 : Shape := ⟨3, ![16384, 200, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x200x21, .f32⟩
  | .hbm, ⟨1, _⟩ => ⟨S21x64, .f32⟩
  | .hbm, ⟨2, _⟩ => ⟨S16384x200x64, .f32⟩
  | _, _ => ⟨S16384x200x21, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Block.lean ====
/-
  What ONE run of the kernel's body leaves in its result buffer, over the extended reals.

  The body loads the whole transposed table, then for each of the eight sequence rows of its block takes that row of
  the input block, multiplies the table by it on the matrix unit, and stores the product as one [1, 64, 8192] slab.
  `row_payload` reads one slab at an index, for any row; `block_value` puts the eight slabs together: the buffer holds
  `blockProduct`, every element one sum of 21 products.
-/
module

public import proofs.«01_k».proof.Proof.Gen.KernelIdeal.Frame
public import Idealize.ShloMosaic.Lib.Pipeline.Value
public import Idealize.ShloMosaic.Lib.Pointwise

@[expose] public section

-- the shapes' long axes (8192 columns) are read structurally where an index is compared
set_option maxRecDepth 16384

noncomputable section

namespace Cert.KernelIdeal.Embedding

open Cert.KernelIdeal Cert.KernelIdeal.Gen Idealize.ShloMosaic

/-- The block of results that belongs to an input block `x` (vocabulary, sequence row, batch column) and a transposed
    table `w` (output feature, vocabulary): row `s`, feature `n`, column `b` is the sum over the vocabulary of
    `w n k * x k s b`. -/
def blockProduct (x : Vec Ideal S21x8x8192 .f32) (w : Vec Ideal S64x21 .f32) : Vec Ideal S8x64x8192 .f32 :=
  fun j => ∑ k : Fin 21, (w (ix2 (j 1) k) : EReal) * x (ix3 k (j 0) (j 2))

/-- The slab's product at an index: a row of the table times a column of the input row, with no accumulator term. -/
theorem product_apply (a : FVec Ideal S64x21 .f32) (b : FVec Ideal S21x8192 .f32) (y : S1x64x8192.Idx) :
    shapeCast S1x64x8192 (matmul dot_S64x21_S21x8192_S64x8192_1_0_0_1_n_n none a b (constant S64x8192 .f32 0x00000000#32))
        shapeCasts_S64x8192_S1x64x8192 y
      = ∑ k : Fin 21, (a (ix2 (y 1) k) : EReal) * b (ix2 k (y 2)) := by
  idx_vars y
  pointwise

/-- The table's load and its trivial cast give the table back. -/
theorem table_load (w : Vec Ideal S64x21 .f32) :
    shapeCast S64x21 (View.ld w r0_0) shapeCasts_S64x21_S64x21 = w := by
  rw [View.ld_unit_zero (funext fun a => by fin_cases a <;> rfl)]
  funext j
  pointwise

/-- Row `s` of the input block, loaded as a [21, 1, 8192] slab and cast to a matrix, at an index. -/
theorem row_load (x : Vec Ideal S21x8x8192 .f32) (s : Fin 8)
    (hin : ∀ a, (![0, s.val, 0] : Fin 3 → Nat) a + S21x1x8192.size a ≤ S21x8x8192.size a) (k : Fin 21) (b : Fin 8192) :
    shapeCast S21x8192 (View.ld x (Rect.unit (s := S21x8x8192) ![0, s.val, 0] S21x1x8192.size hin))
        shapeCasts_S21x1x8192_S21x8192 (ix2 k b) = x (ix3 k s b) := by
  have drop (v : Vec Ideal S21x1x8192 .f32) :
      shapeCast S21x8192 v shapeCasts_S21x1x8192_S21x8192 (ix2 k b) = v (ix3 k 0 b) := by pointwise
  rw [drop]
  refine congrArg x (funext fun a => Fin.ext ?_)
  match a with
  | ⟨0, _⟩ => show 0 + 1 * k.val = k.val; omega
  | ⟨1, _⟩ => show s.val + 1 * 0 = s.val; omega
  | ⟨2, _⟩ => show 0 + 1 * b.val = b.val; omega

/-- One slab: the table times row `s` of the input block, stored at row `s` of the result, is `blockProduct` read
    through the slab's rectangle, whichever row `s` is. -/
theorem row_payload (x : Vec Ideal S21x8x8192 .f32) (w : Vec Ideal S64x21 .f32) (s : Fin 8)
    (hin : ∀ a, (![0, s.val, 0] : Fin 3 → Nat) a + S21x1x8192.size a ≤ S21x8x8192.size a)
    (hout : ∀ a, (![s.val, 0, 0] : Fin 3 → Nat) a + S1x64x8192.size a ≤ S8x64x8192.size a) (y : S1x64x8192.Idx) :
    shapeCast S1x64x8192
        (matmul dot_S64x21_S21x8192_S64x8192_1_0_0_1_n_n none
          (shapeCast S64x21 (View.ld w r0_0) shapeCasts_S64x21_S64x21 : FVec Ideal S64x21 .f32)
          (shapeCast S21x8192 (View.ld x (Rect.unit (s := S21x8x8192) ![0, s.val, 0] S21x1x8192.size hin))
            shapeCasts_S21x1x8192_S21x8192 : FVec Ideal S21x8192 .f32)
          (constant S64x8192 .f32 0x00000000#32)) shapeCasts_S64x8192_S1x64x8192 y
      = blockProduct x w ((Rect.unit (s := S8x64x8192) ![s.val, 0, 0] S1x64x8192.size hout).emb y) := by
  have hy0 : (y 0 : Nat) < 1 := (y 0).isLt
  have e0 : (Rect.unit (s := S8x64x8192) ![s.val, 0, 0] S1x64x8192.size hout).emb y 0 = s :=
    Fin.ext (by show s.val + 1 * (y 0 : Nat) = s.val; omega)
  have e1 : (Rect.unit (s := S8x64x8192) ![s.val, 0, 0] S1x64x8192.size hout).emb y 1 = y 1 :=
    Fin.ext (by show 0 + 1 * (y 1 : Nat) = (y 1 : Nat); omega)
  have e2 : (Rect.unit (s := S8x64x8192) ![s.val, 0, 0] S1x64x8192.size hout).emb y 2 = y 2 :=
    Fin.ext (by show 0 + 1 * (y 2 : Nat) = (y 2 : Nat); omega)
  rw [product_apply, table_load]
  unfold blockProduct
  refine Finset.sum_congr rfl fun k _ => ?_
  refine congrArg₂ (fun a b : EReal => a * b) ?_ ((row_load x s hin k (y 2)).trans ?_)
  · rw [e1]
  · rw [e0, e2]

/-- THE BODY'S VALUE: the eight slabs it stores tile its result buffer, and each agrees with `blockProduct`. -/
theorem block_value (x : Vec Ideal S21x8x8192 .f32) (w : Vec Ideal S64x21 .f32) : out0_2 x w = blockProduct x w := by
  funext j
  refine View.canon_apply_of_pieces (blockProduct x w) _ ?_ j (cover0_2 _ _ _ _ _ _ _ _ j)
  intro p hp
  simp only [List.mem_cons, List.not_mem_nil, or_false] at hp
  rcases hp with rfl | rfl | rfl | rfl | rfl | rfl | rfl | rfl
  · exact row_payload x w 7 (by decide) (by decide)
  · exact row_payload x w 6 (by decide) (by decide)
  · exact row_payload x w 5 (by decide) (by decide)
  · exact row_payload x w 4 (by decide) (by decide)
  · exact row_payload x w 3 (by decide) (by decide)
  · exact row_payload x w 2 (by decide) (by decide)
  · exact row_payload x w 1 (by decide) (by decide)
  · exact row_payload x w 0 (by decide) (by decide)

end Cert.KernelIdeal.Embedding

end
-- ==== Proof.Array.lean ====
/-
  What the kernel's whole run leaves in its result, over the extended reals.

  The 25 × 2 grid points write disjoint [8, 64, 8192] blocks that tile the transposed result; each is the block of one
  function of the transposed inputs (`blocks_value`), so the array ends holding that function (`array_value`). The two
  transposes before the call and the one after it are then read at an index: the program's result at (batch, position,
  feature) is the sum over the vocabulary of `inputs b s k * table k n` (`result_value`, `run`).
-/
module

public import proofs.«01_k».proof.Proof.Block
public import Idealize.ShloMosaic.Lib.Pipeline.Covers
public import Idealize.ShloMosaic.Lib.Claim
public import Idealize.ShloMosaic.Lib.StableHlo.Run

@[expose] public section

set_option maxRecDepth 16384

noncomputable section

namespace Cert.KernelIdeal.Embedding

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The product of a transposed input array and a transposed table, as the call lays it out: position, feature, batch. -/
def arrayProduct (X : Vec Ideal S21x200x16384 .f32) (W : Vec Ideal S64x21 .f32) : Vec Ideal S200x64x16384 .f32 :=
  fun i => ∑ k : Fin 21, (W (ix2 (i 1) k) : EReal) * X (ix3 k (i 0) (i 2))

/-- Block indices at grid point `t`, axis by axis: the input's block is number 0 in the vocabulary, `t / 2` among the
    positions and `t % 2` in the batch; the table's is number 0 on both axes; the result's is number `t / 2` among the
    positions, 0 in the features and `t % 2` in the batch. -/
theorem block_index (t : Fin cfg0.N) :
    (win0_0.index t 0 = 0 ∧ win0_0.index t 1 = t.val / 2 % 25 ∧ win0_0.index t 2 = t.val % 2)
    ∧ (win0_1.index t 0 = 0 ∧ win0_1.index t 1 = 0)
    ∧ (win0_2.index t 0 = t.val / 2 % 25 ∧ win0_2.index t 1 = 0 ∧ win0_2.index t 2 = t.val % 2) := by
  have h0 : (grid0.coords t 0).val = t.val / 2 % 25 := Pipeline.Grid.coords_val t 0 (by decide) rfl
  have h1 : (grid0.coords t 1).val = t.val % 2 := by
    rw [Pipeline.Grid.coords_val t 1 (S := 1) (B := 2) (by decide) rfl, Nat.div_one]
  have w0 : (BitVec.ofNat 32 (grid0.coords t 0).val).toNat = t.val / 2 % 25 := by
    rw [BitVec.toNat_ofNat, h0]; omega
  have w1 : (BitVec.ofNat 32 (grid0.coords t 1).val).toNat = t.val % 2 := by
    rw [BitVec.toNat_ofNat, h1]; omega
  exact ⟨⟨rfl, w0, w1⟩, ⟨rfl, rfl⟩, ⟨w0, rfl, w1⟩⟩

/-- The block product of the inputs' and the table's blocks at grid point `t`, at an index, is the array product at the
    place of the array where the result's block puts that index, for any two arrays. -/
theorem block_of_array (X : Vec Ideal S21x200x16384 .f32) (W : Vec Ideal S64x21 .f32) (t : Fin cfg0.N) (j : S8x64x8192.Idx) :
    blockProduct (fun y => X ((win0_0.rect t).emb y)) (fun y => W ((win0_1.rect t).emb y)) j
      = arrayProduct X W ((win0_2.rect t).emb j) := by
  obtain ⟨⟨a0, a1, a2⟩, ⟨b0, b1⟩, ⟨c0, c1, c2⟩⟩ := block_index t
  have o0 := Pipeline.Window.rect_emb_val win0_2 t j 0
  have o1 := Pipeline.Window.rect_emb_val win0_2 t j 1
  have o2 := Pipeline.Window.rect_emb_val win0_2 t j 2
  rw [c0] at o0; rw [c1] at o1; rw [c2] at o2
  unfold blockProduct arrayProduct
  refine Finset.sum_congr rfl fun k _ => congrArg₂ (fun a b : EReal => a * b) (congrArg W ?_) (congrArg X ?_)
  · have u0 := Pipeline.Window.rect_emb_val win0_1 t (ix2 (j 1) k) 0
    have u1 := Pipeline.Window.rect_emb_val win0_1 t (ix2 (j 1) k) 1
    rw [b0] at u0; rw [b1] at u1
    refine funext fun a => Fin.ext ?_
    match a with
    | ⟨0, _⟩ => exact u0.trans ((by rw [Nat.zero_mul, Nat.zero_mul]; rfl : _ = _).trans o1.symm)
    | ⟨1, _⟩ => exact u1.trans (by rw [Nat.zero_mul, Nat.zero_add]; rfl)
  · have u0 := Pipeline.Window.rect_emb_val win0_0 t (ix3 k (j 0) (j 2)) 0
    have u1 := Pipeline.Window.rect_emb_val win0_0 t (ix3 k (j 0) (j 2)) 1
    have u2 := Pipeline.Window.rect_emb_val win0_0 t (ix3 k (j 0) (j 2)) 2
    rw [a0] at u0; rw [a1] at u1; rw [a2] at u2
    refine funext fun a => Fin.ext ?_
    match a with
    | ⟨0, _⟩ => exact u0.trans (by rw [Nat.zero_mul, Nat.zero_add]; rfl)
    | ⟨1, _⟩ => exact u1.trans o0.symm
    | ⟨2, _⟩ => exact u2.trans o2.symm

/-- What grid point `t` writes back is its block of the whole product. -/
theorem blocks_value (c : Dev nD) (t : Fin cfg0.N) :
    (dats m 0 c).flushed 2 t
      = ((cfg0.win 2).blk t).view.read (Elt Ideal) (arrayProduct (V m c main_v0) (V m c main_v1)) := by
  show (cfg0.win 2).cut (grid0.coords t) ((dats m 0 c).after 2 t) = _
  rw [after0_2, block_value]
  funext j
  exact block_of_array (V m c main_v0) (V m c main_v1) t j

/-- The blocks tile the result: an index lies in the block of its own position and batch. -/
theorem blocks_cover (i : S200x64x16384.Idx) :
    ∃ t : Fin cfg0.N, (cfg0.win 2).flush t = true ∧ i ∈ ((cfg0.win 2).blk t).view.set := by
  have h0 : (i 0 : Nat) < 200 := (i 0).isLt
  have h1 : (i 1 : Nat) < 64 := (i 1).isLt
  have h2 : (i 2 : Nat) < 16384 := (i 2).isLt
  have hN : cfg0.N = 50 := N_0
  have ht : (i 0 : Nat) / 8 * 2 + (i 2 : Nat) / 8192 < cfg0.N := by omega
  refine ⟨⟨_, ht⟩, flush0_2 _, ?_⟩
  obtain ⟨-, -, c0, c1, c2⟩ := block_index ⟨_, ht⟩
  dsimp only at c0 c2
  show i ∈ ((View.whole main_v2).slice (win0_2.rect ⟨_, ht⟩)).set
  rw [View.set_slice_whole, Rect.mem_set_unit]
  intro a
  match a with
  | ⟨0, _⟩ =>
    show win0_2.index ⟨_, ht⟩ 0 * 8 ≤ (i 0 : Nat) ∧ (i 0 : Nat) < win0_2.index ⟨_, ht⟩ 0 * 8 + 8
    rw [c0]; omega
  | ⟨1, _⟩ =>
    show win0_2.index ⟨_, ht⟩ 1 * 64 ≤ (i 1 : Nat) ∧ (i 1 : Nat) < win0_2.index ⟨_, ht⟩ 1 * 64 + 64
    rw [c1]; omega
  | ⟨2, _⟩ =>
    show win0_2.index ⟨_, ht⟩ 2 * 8192 ≤ (i 2 : Nat) ∧ (i 2 : Nat) < win0_2.index ⟨_, ht⟩ 2 * 8192 + 8192
    rw [c2]; omega

/-- So the call's result array ends holding the whole product of the transposed arguments. -/
theorem array_value (c : Dev nD) :
    (dats m 0 c).arrAt 2 cfg0.N = arrayProduct (V m c main_v0) (V m c main_v1) :=
  (dats m 0 c).arrAt_eq_of_cover 2 _ (fun t _ => blocks_value m c t) blocks_cover

/-- THE RESULT: at (batch, position, feature), the sum over the vocabulary of the input times the table. -/
def embedded (X : Vec Ideal S16384x200x21 .f32) (W : Vec Ideal S21x64 .f32) : Vec Ideal S16384x200x64 .f32 :=
  fun i => ∑ k : Fin 21, (X (ix3 (i 0) (i 1) k) : EReal) * W (ix2 k (i 2))

/-- The call finds the input array transposed: vocabulary, position, batch. -/
theorem entry_input (c : Dev nD) :
    V m c main_v0 = transpose S21x200x16384 [2, 1, 0] (m ((c.tc : Thread nD τ).loc main_arg0)) transposes_S16384x200x21_S21x200x16384_2_1_0 := by
  entry_read
  rfl

/-- The call finds the table transposed: feature, vocabulary. -/
theorem entry_table (c : Dev nD) :
    V m c main_v1 = transpose S64x21 [1, 0] (m ((c.tc : Thread nD τ).loc main_arg1)) transposes_S21x64_S64x21_1_0 := by
  entry_read
  rfl

/-- The product of the transposed arguments, transposed back, is `embedded` of the arguments. -/
theorem transposed_product (X : Vec Ideal S16384x200x21 .f32) (W : Vec Ideal S21x64 .f32) :
    transpose S16384x200x64 [2, 0, 1]
        (arrayProduct (transpose S21x200x16384 [2, 1, 0] X transposes_S16384x200x21_S21x200x16384_2_1_0)
          (transpose S64x21 [1, 0] W transposes_S21x64_S64x21_1_0)) transposes_S200x64x16384_S16384x200x64_2_0_1
      = embedded X W := by
  have swap (b : Fin 16384) (s : Fin 200) (k : Fin 21) :
      transpose S21x200x16384 [2, 1, 0] X transposes_S16384x200x21_S21x200x16384_2_1_0 (ix3 k s b) = X (ix3 b s k) := by pointwise
  have turn (k : Fin 21) (n : Fin 64) : transpose S64x21 [1, 0] W transposes_S21x64_S64x21_1_0 (ix2 n k) = W (ix2 k n) := by pointwise
  have back (G : Vec Ideal S200x64x16384 .f32) (b : Fin 16384) (s : Fin 200) (n : Fin 64) :
      transpose S16384x200x64 [2, 0, 1] G transposes_S200x64x16384_S16384x200x64_2_0_1 (ix3 b s n) = G (ix3 s n b) := by pointwise
  funext i
  idx_vars i
  refine (back _ _ _ _).trans (Finset.sum_congr rfl fun k _ => ?_)
  exact (congrArg₂ (fun a b : EReal => a * b) (turn k _) (swap _ _ k)).trans (mul_comm _ _)

/-- What the transpose after the call leaves in the program's result buffer. -/
theorem result_value (c : Dev nD) :
    Pipeline.afterTail₀ cfgs (dats m) 0 (V0 m) [hostOps1] c main_v3
      = embedded (m ((c.tc : Thread nD τ).loc main_arg0)) (m ((c.tc : Thread nD τ).loc main_arg1)) := by
  have arrays : Function.Injective (Pipeline.arrRef spec0) := by decide
  unfold Pipeline.afterTail₀
  after_results
  refine (congrArg (fun G => transpose S16384x200x64 [2, 0, 1] G transposes_S200x64x16384_S16384x200x64_2_0_1)
    ((Pipeline.withArrays_arr spec0 arrays c (V0 m c) (fun w => (dats m 0 c).arrAt w cfg0.N) 2).trans (array_value m c))).trans ?_
  rw [entry_input, entry_table]
  exact transposed_product _ _

/-- THE KERNEL'S RUN: every execution ends with `embedded` of the arguments in the result buffer, the arguments unchanged. -/
theorem run :
    θ_run (defs (F := Ideal)) (onTc (τ := τ) (main (F := Ideal))) ⟨m, fun _ => 0, ρ⟩ (fun r => ∀ c : Dev nD,
      r.2.mem ((c.tc : Thread nD τ).loc main_v3)
        = embedded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c =>
      ⟨((h c).2 main_v3 (Pipeline.mem_restRefs_of main_v3 (by decide) (by decide))).trans (result_value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Embedding

end
-- ==== Proof.Reference.lean ====
/-
  The reference's run over the extended reals: its one contraction at an index is the function the kernel's result is,
  and its arguments and counters end as they must.
-/
module

public import proofs.«01_k».proof.Proof.Array
public import proofs.«01_k».proof.Proof.Gen.ReferenceIdeal.Run
public import Idealize.ShloMosaic.Adequacy

@[expose] public section

set_option maxRecDepth 16384

noncomputable section

namespace Cert.ReferenceIdeal.Embedding

open Cert.ReferenceIdeal Cert.ReferenceIdeal.Gen Idealize.ShloMosaic Idealize.ShloMosaic.TcCoe Idealize.SL.Sem

/-- The contraction of the last axis of `X` with the first of `W` is `embedded X W`. -/
theorem dot_value (X : FVec Ideal S16384x200x21 .f32) (W : FVec Ideal S21x64 .f32) :
    Host.dotGeneral dot_S16384x200x21_S21x64_S16384x200x64_2_0_01_1_n_n none X W = Cert.KernelIdeal.Embedding.embedded X W := by
  funext i
  idx_vars i
  unfold Cert.KernelIdeal.Embedding.embedded
  pointwise

variable (m : (ℓ : Loc nD τ sig) → Buf (Elt Ideal) ℓ) (ρ : Dev nD → PrngReg)

/-- THE REFERENCE'S RUN: every execution ends with `embedded` of the arguments in the result buffer, the arguments
    unchanged. -/
theorem run :
    θ_run (defs (F := Ideal)) (onTc (τ := τ) (main (F := Ideal))) ⟨m, fun _ => 0, ρ⟩ (fun r => ∀ c : Dev nD,
      r.2.mem ((c.tc : Thread nD τ).loc main_v0)
        = Cert.KernelIdeal.Embedding.embedded (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (dot_value _ _), (h c).2⟩) (Cert.ReferenceIdeal.Value.run (F := Ideal) m ρ)

/-- The reference's frame: its arguments end unchanged, and it has no counters to leave off zero. -/
theorem frame :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.ReferenceIdeal.Embedding

end
-- ==== Proof.lean ====
/-
  The certificate: the three programs' frames, that the idealized kernel is the kernel's own text, and that over the
  extended reals the kernel and the reference leave the same result. The frames are the generated ones; the value claim
  joins `Cert.KernelIdeal.Embedding.run` and `Cert.ReferenceIdeal.Embedding.run`, which both end at `embedded`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Reference
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- THE CLAIM: the kernel, its idealization and the reference each run to the end with their arguments unchanged and every
    counter at zero; the idealization preserves the kernel; and over the extended reals the kernel's result is the
    reference's, from any memories that agree on the two arguments. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Embedding.frame m ρ,
    trivial,
    fun m ρ m' ρ' _ agree =>
      ⟨fun c => Cert.KernelIdeal.Embedding.embedded _ _, Cert.KernelIdeal.Embedding.run m ρ,
        (θ_run _ _ _).mono
          (fun _ h c => ⟨(h c).1.trans (by rw [(agree c).1, (agree c).2]), (h c).2⟩)
          (Cert.ReferenceIdeal.Embedding.run m' ρ')⟩⟩

end Cert.Proof

end
